-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "rscale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512 : Shape := ⟨2, ![128, 512]⟩
abbrev S128x1024x128 : Shape := ⟨3, ![128, 1024, 128]⟩
abbrev S128x1024x512 : Shape := ⟨3, ![128, 1024, 512]⟩
abbrev S128 : Shape := ⟨1, ![128]⟩
abbrev S512x1024 : Shape := ⟨2, ![512, 1024]⟩
abbrev S512 : Shape := ⟨1, ![512]⟩
abbrev S512x512 : Shape := ⟨2, ![512, 512]⟩
abbrev S16x8x512 : Shape := ⟨3, ![16, 8, 512]⟩
abbrev S16x8x1 : Shape := ⟨3, ![16, 8, 1]⟩
abbrev S1x128 : Shape := ⟨2, ![1, 128]⟩
abbrev S1x512 : Shape := ⟨2, ![1, 512]⟩
abbrev S1x8x512 : Shape := ⟨3, ![1, 8, 512]⟩
abbrev S8x1024x128 : Shape := ⟨3, ![8, 1024, 128]⟩
abbrev S8x1024x512 : Shape := ⟨3, ![8, 1024, 512]⟩
abbrev S1x8x1 : Shape := ⟨3, ![1, 8, 1]⟩
abbrev S8x512 : Shape := ⟨2, ![8, 512]⟩
abbrev S8x128 : Shape := ⟨2, ![8, 128]⟩
abbrev S1x1024x128 : Shape := ⟨3, ![1, 1024, 128]⟩
abbrev S1024x128 : Shape := ⟨2, ![1024, 128]⟩
abbrev S1x1024 : Shape := ⟨2, ![1, 1024]⟩
abbrev S8x1024 : Shape := ⟨2, ![8, 1024]⟩
abbrev S8x1 : Shape := ⟨2, ![8, 1]⟩
abbrev S8 : Shape := ⟨1, ![8]⟩
abbrev S1x1024x512 : Shape := ⟨3, ![1, 1024, 512]⟩
abbrev S1024x512 : Shape := ⟨2, ![1024, 512]⟩

abbrev nBuf : Space → Nat
  | .hbm => 21
  | .vmem => 19
  | .smem => 0
  | _ => 0

abbrev bufTy : (tb : Table) → Fin (tcTables nBuf tb) → BufTy
  | .hbm, ⟨0, _⟩ => ⟨S128x512, .f32⟩
  | .hbm, ⟨1, _⟩ => ⟨S128x1024x128, .f32⟩
  | .hbm, ⟨2, _⟩ => ⟨S128x1024x512, .f32⟩
  | .hbm, ⟨3, _⟩ => ⟨S128x512, .f32⟩
  | .hbm, ⟨4, _⟩ => ⟨S128, .f32⟩
  | .hbm, ⟨5, _⟩ => ⟨S512x1024, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S128, .i32⟩
  | .hbm, ⟨12, _⟩ => ⟨S16x8x512, .f32⟩
  | .hbm, ⟨13, _⟩ => ⟨S16x8x1, .i32⟩
  | .hbm, ⟨14, _⟩ => ⟨S512x512, .f32⟩
  | .hbm, ⟨15, _⟩ => ⟨S512x512, .f32⟩
  | .hbm, ⟨16, _⟩ => ⟨S1x128, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S16x8x512, .f32⟩
  | .local _ .vmem, ⟨0, _⟩ => ⟨S1x8x512, .f32⟩
  | .local _ .vmem, ⟨1, _⟩ => ⟨S1x8x512, .f32⟩
  | .local _ .vmem, ⟨2, _⟩ => ⟨S8x1024x128, .f32⟩
  | .local _ .vmem, ⟨3, _⟩ => ⟨S8x1024x128, .f32⟩
  | .local _ .vmem, ⟨4, _⟩ => ⟨S8x1024x512, .f32⟩
  | .local _ .vmem, ⟨5, _⟩ => ⟨S8x1024x512, .f32⟩
  | .local _ .vmem, ⟨6, _⟩ => ⟨S1x8x1, .i32⟩
  | .local _ .vmem, ⟨7, _⟩ => ⟨S1x8x1, .i32⟩
  | .local _ .vmem, ⟨8, _⟩ => ⟨S128x512, .f32⟩
  | .local _ .vmem, ⟨9, _⟩ => ⟨S1x128, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S512x512, .f32⟩
  | .local _ .vmem, ⟨14, _⟩ => ⟨S1x512, .f32⟩
  | .local _ .vmem, ⟨15, _⟩ => ⟨S512x512, .f32⟩
  | .local _ .vmem, ⟨16, _⟩ => ⟨S1x512, .f32⟩
  | .local _ .vmem, ⟨17, _⟩ => ⟨S1x8x512, .f32⟩
  | .local _ .vmem, ⟨18, _⟩ => ⟨S1x8x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "rscale" => some (((Real.sqrt 128)⁻¹ : ℝ) : EReal)
  | _ => none
-- ==== ReferenceIdeal.lean ====
abbrev S128x512 : Shape := ⟨2, ![128, 512]⟩
abbrev S128x1024x128 : Shape := ⟨3, ![128, 1024, 128]⟩
abbrev S128x1024x512 : Shape := ⟨3, ![128, 1024, 512]⟩
abbrev S128 : Shape := ⟨1, ![128]⟩
abbrev S512x1024 : Shape := ⟨2, ![512, 1024]⟩
abbrev S512 : Shape := ⟨1, ![512]⟩
abbrev S512x512 : Shape := ⟨2, ![512, 512]⟩
abbrev S_ : Shape := ⟨0, ![]⟩
abbrev S512x128 : Shape := ⟨2, ![512, 128]⟩
abbrev S128x128 : Shape := ⟨2, ![128, 128]⟩
abbrev S1x128 : Shape := ⟨2, ![1, 128]⟩
abbrev S1024 : Shape := ⟨1, ![1024]⟩
abbrev S1x1024 : Shape := ⟨2, ![1, 1024]⟩
abbrev S128x1 : Shape := ⟨2, ![128, 1]⟩
abbrev S128x1024 : Shape := ⟨2, ![128, 1024]⟩
abbrev S1024x512 : Shape := ⟨2, ![1024, 512]⟩
abbrev S1x512 : Shape := ⟨2, ![1, 512]⟩
abbrev S16x8x512 : Shape := ⟨3, ![16, 8, 512]⟩

abbrev nBuf : Space → Nat
  | .hbm => 101
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x1024x128, .f32⟩
  | .hbm, ⟨2, _⟩ => ⟨S128x1024x512, .f32⟩
  | .hbm, ⟨3, _⟩ => ⟨S128x512, .f32⟩
  | .hbm, ⟨4, _⟩ => ⟨S128, .f32⟩
  | .hbm, ⟨5, _⟩ => ⟨S512x1024, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S128, .i32⟩
  | .hbm, ⟨12, _⟩ => ⟨S_, .f32⟩
  | .hbm, ⟨13, _⟩ => ⟨S_, .f32⟩
  | .hbm, ⟨14, _⟩ => ⟨S512x128, .f32⟩
  | .hbm, ⟨15, _⟩ => ⟨S128x128, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S1024, .i32⟩
  | .hbm, ⟨20, _⟩ => ⟨S1x1024, .i32⟩
  | .hbm, ⟨21, _⟩ => ⟨S128x1, .i32⟩
  | .hbm, ⟨22, _⟩ => ⟨S128x1024, .i32⟩
  | .hbm, ⟨23, _⟩ => ⟨S128x1024, .i32⟩
  | .hbm, ⟨24, _⟩ => ⟨S128x1024, .i1⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128x1, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S_, .f32⟩
  | .hbm, ⟨48, _⟩ => ⟨S128x1024, .i1⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .i1⟩
  | .hbm, ⟨55, _⟩ => ⟨S_, .f32⟩
  | .hbm, ⟨56, _⟩ => ⟨S128x1024, .f32⟩
  | .hbm, ⟨57, _⟩ => ⟨S128x1024, .f32⟩
  | .hbm, ⟨58, _⟩ => ⟨S_, .f32⟩
  | .hbm, ⟨59, _⟩ => ⟨S128x1024, .f32⟩
  | .hbm, ⟨60, _⟩ => ⟨S128x1024, .i1⟩
  | .hbm, ⟨61, _⟩ => ⟨S_, .f32⟩
  | .hbm, ⟨62, _⟩ => ⟨S128x1024, .f32⟩
  | .hbm, ⟨63, _⟩ => ⟨S128x1024, .f32⟩
  | .hbm, ⟨64, _⟩ => ⟨S128x512, .f32⟩
  | .hbm, ⟨65, _⟩ => ⟨S128x1024, .f32⟩
  | .hbm, ⟨66, _⟩ => ⟨S1024x512, .f32⟩
  | .hbm, ⟨67, _⟩ => ⟨S128x512, .f32⟩
  | .hbm, ⟨68, _⟩ => ⟨S1x512, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S128x512, .f32⟩
  | .hbm, ⟨73, _⟩ => ⟨S_, .f32⟩
  | .hbm, ⟨74, _⟩ => ⟨S128x512, .f32⟩
  | .hbm, ⟨75, _⟩ => ⟨S128x512, .f32⟩
  | .hbm, ⟨76, _⟩ => ⟨S_, .f32⟩
  | .hbm, ⟨77, _⟩ => ⟨S128x512, .f32⟩
  | .hbm, ⟨78, _⟩ => ⟨S128x512, .f32⟩
  | .hbm, ⟨79, _⟩ => ⟨S128x512, .f32⟩
  | .hbm, ⟨80, _⟩ => ⟨S512x512, .f32⟩
  | .hbm, ⟨81, _⟩ => ⟨S128x512, .f32⟩
  | .hbm, ⟨82, _⟩ => ⟨S1x512, .f32⟩
  | .hbm, ⟨83, _⟩ => ⟨S128x512, .f32⟩
  | .hbm, ⟨84, _⟩ => ⟨S128x512, .f32⟩
  | .hbm, ⟨85, _⟩ => ⟨S128x512, .f32⟩
  | .hbm, ⟨86, _⟩ => ⟨S128x512, .f32⟩
  | .hbm, ⟨87, _⟩ => ⟨S_, .f32⟩
  | .hbm, ⟨88, _⟩ => ⟨S128x512, .f32⟩
  | .hbm, ⟨89, _⟩ => ⟨S128x512, .f32⟩
  | .hbm, ⟨90, _⟩ => ⟨S_, .f32⟩
  | .hbm, ⟨91, _⟩ => ⟨S128x512, .f32⟩
  | .hbm, ⟨92, _⟩ => ⟨S128x512, .f32⟩
  | .hbm, ⟨93, _⟩ => ⟨S128x512, .f32⟩
  | .hbm, ⟨94, _⟩ => ⟨S128x512, .f32⟩
  | .hbm, ⟨95, _⟩ => ⟨S512x512, .f32⟩
  | .hbm, ⟨96, _⟩ => ⟨S128x512, .f32⟩
  | .hbm, ⟨97, _⟩ => ⟨S1x512, .f32⟩
  | .hbm, ⟨98, _⟩ => ⟨S128x512, .f32⟩
  | .hbm, ⟨99, _⟩ => ⟨S128x512, .f32⟩
  | .hbm, ⟨100, _⟩ => ⟨S16x8x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_call0_v0 : Ref sig .tc := ⟨.hbm, 50, rfl⟩
abbrev main_call1_v2 : Ref sig .tc := ⟨.hbm, 51, rfl⟩
abbrev main_call1_cst : Ref sig .tc := ⟨.hbm, 52, rfl⟩
abbrev main_call1_v3 : Ref sig .tc := ⟨.hbm, 53, rfl⟩
abbrev main_call1_v4 : Ref sig .tc := ⟨.hbm, 54, rfl⟩
abbrev main_call1_cst_0 : Ref sig .tc := ⟨.hbm, 55, rfl⟩
abbrev main_call1_call1_v0 : Ref sig .tc := ⟨.hbm, 56, rfl⟩
abbrev main_call1_v5 : Ref sig .tc := ⟨.hbm, 57, rfl⟩
abbrev main_call1_cst_1 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_call2_v0 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_6 : Ref sig .tc := ⟨.hbm, 87, rfl⟩
abbrev main_v43 : Ref sig .tc := ⟨.hbm, 88, rfl⟩
abbrev main_v44 : Ref sig .tc := ⟨.hbm, 89, rfl⟩
abbrev main_cst_7 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩

abbrev nD : Nat := 1
abbrev τ : Topo := Topo.v7x

variable {F : FTy → Type} [FloatOps F]
-- ==== Proof.Row.lean ====
/- The mathematics of one batch row, over extended reals, with no program in sight: what the retrieval and the two gated
   layers compute from a row's hidden state, its memory and the weights, and the two spellings of the softmax weights. -/
module

public import Idealize.ShloMosaic.PureOps.Ideal

@[expose] public section

noncomputable section

open Idealize.ShloMosaic

namespace Cert.Row

/-! ## What one row computes -/

/-- The row's query: its hidden state through the query layer. -/
def query (hid : Fin 512 → EReal) (Wq : Fin 128 → Fin 512 → EReal) (bq : Fin 128 → EReal) (d : Fin 128) : EReal :=
  ∑ v, hid v * Wq d v + bq d

/-- The scaled score of each memory slot, and `⊥` from slot `n` on (`n` is compared as a signed word). -/
def masked (q : Fin 128 → EReal) (keys : Fin 1024 → Fin 128 → EReal) (n : BitVec 32) (k : Fin 1024) : EReal :=
  Scalar.select (IntOp.cmpi .slt (BitVec.ofNat 32 k) n) ((∑ d, q d * keys k d) * (((Real.sqrt 128)⁻¹ : ℝ) : EReal)) ⊥

/-- The largest score. -/
def top (x : Fin 1024 → EReal) : EReal := Finset.univ.fold max ⊥ x

/-- What the guarded softmax subtracts: the largest score when it is finite, zero when it is not. -/
def shift (x : Fin 1024 → EReal) : EReal := if top x = ⊤ ∨ top x = ⊥ then 0 else top x

/-- The guarded softmax: zero weights when the exponentials add up to nothing. -/
def weight (x : Fin 1024 → EReal) (k : Fin 1024) : EReal :=
  if 0 < ∑ l, Ideal.exp (x l - shift x) then Ideal.div (Ideal.exp (x k - shift x)) (∑ l, Ideal.exp (x l - shift x)) else 0

/-- The plain softmax quotient, with nothing guarded. -/
def quotient (x : Fin 1024 → EReal) (k : Fin 1024) : EReal :=
  Ideal.div (Ideal.exp (x k - top x)) (∑ l, Ideal.exp (x l - top x))

/-- Replaces an infinite value: first `⊤` by `big`, then `⊥` by zero. -/
def clean (big v : EReal) : EReal :=
  if (if v = ⊤ then big else v) = ⊥ then 0 else if v = ⊤ then big else v

/-- The memory's values averaged with the weights `w`. -/
def retrieved (w : Fin 1024 → EReal) (vals : Fin 1024 → Fin 512 → EReal) (v : Fin 512) : EReal := ∑ k, w k * vals k v

/-- The first gate layer before its activation, its weights split into the half that meets the hidden state and the half
    that meets the retrieved value. -/
def layer (hid ret : Fin 512 → EReal) (Wh Wr : Fin 512 → Fin 512 → EReal) (b : Fin 512 → EReal) (v : Fin 512) : EReal :=
  ∑ u, hid u * Wh v u + ∑ u, ret u * Wr v u + b v

/-- The gate: the second layer on `h · σ(h)`, through `σ`. -/
def gate (h : Fin 512 → EReal) (W : Fin 512 → Fin 512 → EReal) (b : Fin 512 → EReal) (u : Fin 512) : EReal :=
  Ideal.logistic (∑ v, h v * Ideal.logistic (h v) * W u v + b u)

/-- The output layer on the hidden state plus the gated retrieved value. -/
def output (hid ret g : Fin 512 → EReal) (W : Fin 512 → Fin 512 → EReal) (b : Fin 512 → EReal) (o : Fin 512) : EReal :=
  ∑ u, (hid u + g u * ret u) * W o u + b o

/-- The whole row. -/
def row (hid : Fin 512 → EReal) (keys : Fin 1024 → Fin 128 → EReal) (vals : Fin 1024 → Fin 512 → EReal) (n : BitVec 32)
    (Wq : Fin 128 → Fin 512 → EReal) (bq : Fin 128 → EReal) (Wh Wr : Fin 512 → Fin 512 → EReal) (b₁ : Fin 512 → EReal)
    (W₂ : Fin 512 → Fin 512 → EReal) (b₂ : Fin 512 → EReal) (Wo : Fin 512 → Fin 512 → EReal) (bo : Fin 512 → EReal) :
    Fin 512 → EReal :=
  let ret := retrieved (weight (masked (query hid Wq bq) keys n)) vals
  output hid ret (gate (layer hid ret Wh Wr b₁) W₂ b₂) Wo bo

/-! ## The two softmaxes agree -/

/-- An exponential is nonnegative. -/
theorem exp_nonneg (x : EReal) : 0 ≤ Ideal.exp x := by
  induction x using EReal.rec with
  | bot => simp
  | top => simp
  | coe r => simpa using (Real.exp_pos r).le

/-- Every score is at most the largest. -/
theorem le_top_of (x : Fin 1024 → EReal) (k : Fin 1024) : x k ≤ top x :=
  (Finset.le_fold_max (x k)).2 (.inr ⟨k, Finset.mem_univ k, le_rfl⟩)

/-- The largest score is one of the scores. -/
theorem exists_eq_top (x : Fin 1024 → EReal) (h : top x ≠ ⊥) : ∃ k, x k = top x := by
  obtain h' | ⟨k, -, hk⟩ := (Finset.le_fold_max (top x)).1 (le_refl (top x))
  · exact absurd (le_bot_iff.1 h') h
  · exact ⟨k, le_antisymm (le_top_of x k) hk⟩

/-- A sum of nonnegative terms is nonnegative and is at least each of them. -/
theorem le_sum (f : Fin 1024 → EReal) (h : ∀ k, 0 ≤ f k) (k : Fin 1024) : f k ≤ ∑ l, f l :=
  Finset.single_le_sum (fun l _ => h l) (Finset.mem_univ k)

/-- Zero over zero is `⊥`, and cleaned it is zero. -/
theorem clean_div_zero (big : EReal) : clean big (Ideal.div 0 0) = 0 := by
  simp [clean, Ideal.div]

/-- With a finite largest score, the exponentials are at most one. -/
theorem exp_le_one (x : Fin 1024 → EReal) (r : ℝ) (h : top x = (r : EReal)) (k : Fin 1024) :
    Ideal.exp (x k - top x) ≤ 1 := by
  have hk := le_top_of x k
  rw [h] at hk ⊢
  induction hx : x k using EReal.rec with
  | bot => simp
  | top => rw [hx] at hk; exact absurd (top_le_iff.1 hk) (EReal.coe_ne_top r)
  | coe s =>
    rw [hx] at hk
    rw [← EReal.coe_sub, Ideal.exp_coe, ← EReal.coe_one, EReal.coe_le_coe_iff]
    exact Real.exp_le_one_iff.2 (sub_nonpos.2 (EReal.coe_le_coe_iff.1 hk))

/-- A real quotient of a number in `[0, 1]` by a number that is at least one is finite. -/
theorem div_finite (a s : EReal) (ha : 0 ≤ a) (ha1 : a ≤ 1) (hs : 1 ≤ s) :
    Ideal.div a s ≠ ⊤ ∧ Ideal.div a s ≠ ⊥ := by
  have hs0 : s ≠ 0 := fun h => by rw [h] at hs; exact absurd hs (by norm_num)
  have hq : Ideal.div a s = a * s⁻¹ := by simp [Ideal.div, hs0]
  rw [hq]
  induction a using EReal.rec with
  | bot => exact absurd ha (by simp)
  | top => exact absurd (top_le_iff.1 ha1) (by exact_mod_cast EReal.coe_ne_top 1)
  | coe a =>
    induction s using EReal.rec with
    | bot => exact absurd (le_bot_iff.1 hs) (by exact_mod_cast EReal.coe_ne_bot 1)
    | top => simp
    | coe s =>
      rw [← EReal.coe_inv, ← EReal.coe_mul]
      exact ⟨EReal.coe_ne_top _, EReal.coe_ne_bot _⟩

/-- The guarded softmax is the plain quotient with its infinite values replaced. -/
theorem weight_eq_clean (big : EReal) (x : Fin 1024 → EReal) (k : Fin 1024) : weight x k = clean big (quotient x k) := by
  by_cases ht : top x = ⊤
  · -- an infinite score: the plain exponentials all vanish, and the guarded ones add up to `⊤`
    have hz : ∀ l, Ideal.exp (x l - top x) = 0 := fun l => by
      rw [ht, EReal.sub_top, Ideal.exp_bot]
    have hs : shift x = 0 := by simp [shift, ht]
    obtain ⟨j, hj⟩ := exists_eq_top x (by rw [ht]; exact top_ne_bot)
    have hsum : ∑ l, Ideal.exp (x l - 0) = ⊤ := by
      refine top_le_iff.1 (le_trans ?_ (le_sum _ (fun l => exp_nonneg _) j))
      rw [hj, ht, sub_zero, Ideal.exp_top]
    have hq : quotient x k = Ideal.div 0 0 := by simp [quotient, hz]
    rw [hq, clean_div_zero, weight, hs, hsum]
    simp [Ideal.div]
  by_cases hb : top x = ⊥
  · -- every score masked
    have hx : ∀ l, x l = ⊥ := fun l => le_bot_iff.1 (hb ▸ le_top_of x l)
    have hs : shift x = 0 := by simp [shift, hb]
    have hq : quotient x k = Ideal.div 0 0 := by simp [quotient, hx]
    rw [hq, clean_div_zero, weight, hs]
    simp [hx]
  · -- a finite largest score
    have hs : shift x = top x := by simp [shift, ht, hb]
    obtain ⟨j, hj⟩ := exists_eq_top x hb
    have hr : top x = ((top x).toReal : EReal) := (EReal.coe_toReal ht hb).symm
    have hone : Ideal.exp (x j - top x) = 1 := by
      rw [hj, EReal.sub_self ht hb, ← EReal.coe_zero, Ideal.exp_coe, Real.exp_zero, EReal.coe_one]
    have h1 : 1 ≤ ∑ l, Ideal.exp (x l - top x) := hone ▸ le_sum (fun l => Ideal.exp (x l - top x)) (fun l => exp_nonneg _) j
    obtain ⟨hnt, hnb⟩ := div_finite _ _ (exp_nonneg (x k - top x)) (exp_le_one x _ hr k) h1
    rw [clean, quotient, if_neg hnt, if_neg hnb, weight, hs, if_pos (lt_of_lt_of_le zero_lt_one h1)]

end Cert.Row

end
-- ==== Proof.Consts.lean ====
/- The float constants the two programs spell, as the extended reals they denote. -/
module

public import Idealize.ShloMosaic.PureOps.Ideal

@[expose] public section

noncomputable section

namespace Cert.Consts

open Idealize.ShloMosaic

/-- The mask's fill, and the value both maxima start from, is `⊥`. -/
theorem ofBits_neg_inf : Ideal.ofBits .f32 0xFF800000#32 = ⊥ := by
  simp [Ideal.ofBits, Ideal.ieee]

/-- The value the reference's cleaning compares with is `⊤`. -/
theorem ofBits_pos_inf : Ideal.ofBits .f32 0x7F800000#32 = ⊤ := by
  simp [Ideal.ofBits, Ideal.ieee]

/-- The key width, whose root the reference divides by. -/
theorem ofBits_key_width : Ideal.ofBits .f32 0x43000000#32 = ((128 : ℝ) : EReal) := by
  simp [Ideal.ofBits, Ideal.ieee, -EReal.coe_mul]; norm_num

end Cert.Consts

end
-- ==== Proof.Block.lean ====
/- What the kernel body stores for one block of eight rows, row by row: each payload of the body read at an index, and the
   block as `Cert.Row.row` of the blocks the body loads. -/
module

public import proofs.«01_k».proof.Proof.Gen.KernelIdeal.Value
public import proofs.«01_k».proof.Proof.Row
public import proofs.«01_k».proof.Proof.Consts
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen Cert.Row

/-- The kernel's named constant is the real `(√128)⁻¹`. -/
theorem rscale : Named.named (F := Ideal) κ "rscale" (φ := .f32) 0x3DB504F3#32 = (((Real.sqrt 128)⁻¹ : ℝ) : EReal) :=
  IdealRules.named_const.ideal_named_scalar _ _ _ _ rfl

/-- The body's guarded shift: the select on "is finite" is the choice in `Cert.Row.shift`. -/
theorem select_finite (a : EReal) :
    Scalar.select (IntOp.xori (FloatOps.weird (F := Ideal) a) 1#1) a (0 : EReal) = if a = ⊤ ∨ a = ⊥ then 0 else a := by
  show Scalar.select (IntOp.xori (BitVec.ofBool (decide (a = ⊤ ∨ a = ⊥))) 1#1) a (0 : EReal) = _
  by_cases h : a = ⊤ ∨ a = ⊥
  · rw [if_pos h, decide_eq_true h]; rfl
  · rw [if_neg h, decide_eq_false h]; rfl

/-- The query of row `r` of the block. -/
theorem query_at (x0 : FVec Ideal S1x8x512 .f32) (x4 : FVec Ideal S128x512 .f32) (x5 : FVec Ideal S1x128 .f32) (r : Fin 8) (d : Fin 128) :
    k0_pay3 (F := Ideal) x0 x4 x5 (ix2 r d)
      = query (fun v => x0 (ix3 0 r v)) (fun d v => x4 (ix2 d v)) (fun d => x5 (ix2 0 d)) d := by
  pointwise [k0_pay3, k0_pay2, query]

set_option maxHeartbeats 1600000 in
/-- The exponentials of row `r`, from the row's masked scores `x`. -/
theorem exp_at (q : FVec Ideal S8x128 .f32) (s0 s1 s2 s3 s4 : FVec Ideal S1x1024 .f32) (q5 : FVec Ideal S1x128 .f32)
    (k5 k6 k7 : FVec Ideal S1x1024x128 .f32) (f : IVec S1x8x1 32) (x : Fin 8 → Fin 1024 → EReal)
    (hx : ∀ r k, x r k = Scalar.select (IntOp.cmpi .slt (BitVec.ofNat 32 k) (f (ix3 0 r 0)))
      (![s0 (ix2 0 k), s1 (ix2 0 k), s2 (ix2 0 k), s3 (ix2 0 k), s4 (ix2 0 k), ∑ d : Fin 128, q5 (ix2 0 d) * k5 (ix3 0 k d),
        ∑ d : Fin 128, q (ix2 6 d) * k6 (ix3 0 k d), ∑ d : Fin 128, q (ix2 7 d) * k7 (ix3 0 k d)] r
          * (((Real.sqrt 128)⁻¹ : ℝ) : EReal)) ⊥) (r : Fin 8) (k : Fin 1024) :
    k0_pay10 (F := Ideal) q s0 s1 s2 s3 s4 q5 k5 k6 k7 f (ix2 r k) = Ideal.exp (x r k - shift (x r)) := by
  rw [show shift (x r) = _ from congrArg shift (funext (hx r)), hx r k]
  pointwise [k0_pay10]
  simp only [rscale, Consts.ofBits_neg_inf, select_finite, shift, top]
  fin_vals r with hr
  · obtain rfl : r = 0 := Fin.ext hr
    rfl
  · obtain rfl : r = 1 := Fin.ext hr
    rfl
  · obtain rfl : r = 2 := Fin.ext hr
    rfl
  · obtain rfl : r = 3 := Fin.ext hr
    rfl
  · obtain rfl : r = 4 := Fin.ext hr
    rfl
  · obtain rfl : r = 5 := Fin.ext hr
    rfl
  · obtain rfl : r = 6 := Fin.ext hr
    rfl
  · obtain rfl : r = 7 := Fin.ext hr
    rfl

/-- The unscaled scores of the first row: the query row against the row's keys. -/
theorem score0_at (x0 : FVec Ideal S1x8x512 .f32) (x4 : FVec Ideal S128x512 .f32) (x5 : FVec Ideal S1x128 .f32)
    (p : FVec Ideal S1x1024x128 .f32) (k : Fin 1024) :
    k0_pay4 (F := Ideal) x0 x4 x5 p (ix2 0 k) = ∑ d : Fin 128, k0_pay3 (F := Ideal) x0 x4 x5 (ix2 0 d) * p (ix3 0 k d) := by
  pointwise [k0_pay4]

/-- The unscaled scores of the second row. -/
theorem score1_at (x0 : FVec Ideal S1x8x512 .f32) (x4 : FVec Ideal S128x512 .f32) (x5 : FVec Ideal S1x128 .f32)
    (p : FVec Ideal S1x1024x128 .f32) (k : Fin 1024) :
    k0_pay5 (F := Ideal) x0 x4 x5 p (ix2 0 k) = ∑ d : Fin 128, k0_pay3 (F := Ideal) x0 x4 x5 (ix2 1 d) * p (ix3 0 k d) := by
  pointwise [k0_pay5]

/-- The unscaled scores of the third row. -/
theorem score2_at (x0 : FVec Ideal S1x8x512 .f32) (x4 : FVec Ideal S128x512 .f32) (x5 : FVec Ideal S1x128 .f32)
    (p : FVec Ideal S1x1024x128 .f32) (k : Fin 1024) :
    k0_pay6 (F := Ideal) x0 x4 x5 p (ix2 0 k) = ∑ d : Fin 128, k0_pay3 (F := Ideal) x0 x4 x5 (ix2 2 d) * p (ix3 0 k d) := by
  pointwise [k0_pay6]

/-- The unscaled scores of the fourth row. -/
theorem score3_at (x0 : FVec Ideal S1x8x512 .f32) (x4 : FVec Ideal S128x512 .f32) (x5 : FVec Ideal S1x128 .f32)
    (p : FVec Ideal S1x1024x128 .f32) (k : Fin 1024) :
    k0_pay7 (F := Ideal) x0 x4 x5 p (ix2 0 k) = ∑ d : Fin 128, k0_pay3 (F := Ideal) x0 x4 x5 (ix2 3 d) * p (ix3 0 k d) := by
  pointwise [k0_pay7]

/-- The unscaled scores of the fifth row. -/
theorem score4_at (x0 : FVec Ideal S1x8x512 .f32) (x4 : FVec Ideal S128x512 .f32) (x5 : FVec Ideal S1x128 .f32)
    (p : FVec Ideal S1x1024x128 .f32) (k : Fin 1024) :
    k0_pay8 (F := Ideal) x0 x4 x5 p (ix2 0 k) = ∑ d : Fin 128, k0_pay3 (F := Ideal) x0 x4 x5 (ix2 4 d) * p (ix3 0 k d) := by
  pointwise [k0_pay8]

/-- The sixth query row, which the body slices before it loads the row's keys. -/
theorem query5_at (x0 : FVec Ideal S1x8x512 .f32) (x4 : FVec Ideal S128x512 .f32) (x5 : FVec Ideal S1x128 .f32) (d : Fin 128) :
    k0_pay9 (F := Ideal) x0 x4 x5 (ix2 0 d) = k0_pay3 (F := Ideal) x0 x4 x5 (ix2 5 d) := by
  pointwise [k0_pay9]

/-- The guarded softmax weights: the body's select, from the exponentials. -/
theorem weight_at (q : FVec Ideal S8x128 .f32) (s0 s1 s2 s3 s4 : FVec Ideal S1x1024 .f32) (q5 : FVec Ideal S1x128 .f32)
    (k5 k6 k7 : FVec Ideal S1x1024x128 .f32) (f : IVec S1x8x1 32) (x : Fin 8 → Fin 1024 → EReal)
    (hx : ∀ r k, k0_pay10 (F := Ideal) q s0 s1 s2 s3 s4 q5 k5 k6 k7 f (ix2 r k) = Ideal.exp (x r k - shift (x r))) (r : Fin 8) (k : Fin 1024) :
    k0_pay15 (F := Ideal) (k0_pay12 q s0 s1 s2 s3 s4 q5 k5 k6 k7 f) (k0_pay13 q s0 s1 s2 s3 s4 q5 k5 k6 k7 f) k0_pay14 (ix2 r k)
      = weight (x r) k := by
  pointwise [k0_pay15, k0_pay14, k0_pay13, k0_pay12, k0_pay11, weight]
  simp only [hx]

/-- The stack of eight retrieved rows, each the row's weights against the row's values. -/
theorem retrieved_at (a : FVec Ideal S8x1024 .f32) (b : IVec S8x1024 1) (z : FVec Ideal S8x1024 .f32)
    (p0 p1 p2 p3 p4 p5 p6 p7 : FVec Ideal S1x1024x512 .f32) (r : Fin 8) (v : Fin 512) :
    k0_pay24 (F := Ideal) (k0_pay16 a b z p0) (k0_pay17 a b z p1) (k0_pay18 a b z p2) (k0_pay19 a b z p3) (k0_pay20 a b z p4)
      (k0_pay21 a b z p5) (k0_pay22 a b z p6) (k0_pay23 a b z) p7 (ix2 r v)
      = retrieved (fun k => k0_pay15 a b z (ix2 r k)) (fun k v => ![p0, p1, p2, p3, p4, p5, p6, p7] r (ix3 0 k v)) v := by
  pointwise [k0_pay24, k0_pay16, k0_pay17, k0_pay18, k0_pay19, k0_pay20, k0_pay21, k0_pay22, k0_pay23, retrieved]
  fin_vals r with hr
  · obtain rfl : r = 0 := Fin.ext hr
    rfl
  · obtain rfl : r = 1 := Fin.ext hr
    rfl
  · obtain rfl : r = 2 := Fin.ext hr
    rfl
  · obtain rfl : r = 3 := Fin.ext hr
    rfl
  · obtain rfl : r = 4 := Fin.ext hr
    rfl
  · obtain rfl : r = 5 := Fin.ext hr
    rfl
  · obtain rfl : r = 6 := Fin.ext hr
    rfl
  · obtain rfl : r = 7 := Fin.ext hr
    rfl

/-- The two gated layers and the output layer, from the block's hidden rows `h` and its retrieved rows `t`. -/
theorem layers_at (h t : FVec Ideal S8x512 .f32) (w1 w2 : FVec Ideal S512x512 .f32) (b1 : FVec Ideal S1x512 .f32)
    (w3 : FVec Ideal S512x512 .f32) (b3 : FVec Ideal S1x512 .f32) (w4 : FVec Ideal S512x512 .f32) (b4 : FVec Ideal S1x512 .f32)
    (r : Fin 8) (o : Fin 512) :
    k0_pay25 (F := Ideal) h t w1 w2 b1 w3 b3 w4 b4 (ix2 r o)
      = output (fun u => h (ix2 r u)) (fun u => t (ix2 r u))
          (gate (layer (fun u => h (ix2 r u)) (fun u => t (ix2 r u)) (fun v u => w1 (ix2 v u)) (fun v u => w2 (ix2 v u)) (fun v => b1 (ix2 0 v)))
            (fun u v => w3 (ix2 u v)) (fun u => b3 (ix2 0 u))) (fun o u => w4 (ix2 o u)) (fun o => b4 (ix2 0 o)) o := by
  pointwise [k0_pay25, output, gate, layer]

section
variable (x0 : FVec Ideal S1x8x512 .f32) (x4 : FVec Ideal S128x512 .f32) (x5 : FVec Ideal S1x128 .f32)
  (p0 p1 p2 p3 p4 p5 p6 p7 : FVec Ideal S1x1024x128 .f32) (f : IVec S1x8x1 32)

/-- The body's softmax quotients for the eight rows, from the loads. -/
abbrev quots : FVec Ideal S8x1024 .f32 :=
  k0_pay12 (F := Ideal) (k0_pay3 x0 x4 x5) (k0_pay4 x0 x4 x5 p0) (k0_pay5 x0 x4 x5 p1) (k0_pay6 x0 x4 x5 p2) (k0_pay7 x0 x4 x5 p3) (k0_pay8 x0 x4 x5 p4) (k0_pay9 x0 x4 x5) p5 p6 p7 f

/-- Where the body's sums of exponentials are positive, from the loads. -/
abbrev positive : IVec S8x1024 1 :=
  k0_pay13 (F := Ideal) (k0_pay3 x0 x4 x5) (k0_pay4 x0 x4 x5 p0) (k0_pay5 x0 x4 x5 p1) (k0_pay6 x0 x4 x5 p2) (k0_pay7 x0 x4 x5 p3) (k0_pay8 x0 x4 x5 p4) (k0_pay9 x0 x4 x5) p5 p6 p7 f

/-- The masked scores of the eight rows, from the loads. -/
def scores (r : Fin 8) : Fin 1024 → EReal :=
  masked (query (fun v => x0 (ix3 0 r v)) (fun d v => x4 (ix2 d v)) (fun d => x5 (ix2 0 d)))
    (fun k d => ![p0, p1, p2, p3, p4, p5, p6, p7] r (ix3 0 k d)) (f (ix3 0 r 0))

/-- The body's masked scores are `scores`. -/
theorem scores_eq (r : Fin 8) (k : Fin 1024) :
    scores x0 x4 x5 p0 p1 p2 p3 p4 p5 p6 p7 f r k = Scalar.select (IntOp.cmpi .slt (BitVec.ofNat 32 k) (f (ix3 0 r 0)))
      (![k0_pay4 (F := Ideal) x0 x4 x5 p0 (ix2 0 k), k0_pay5 (F := Ideal) x0 x4 x5 p1 (ix2 0 k), k0_pay6 (F := Ideal) x0 x4 x5 p2 (ix2 0 k),
        k0_pay7 (F := Ideal) x0 x4 x5 p3 (ix2 0 k), k0_pay8 (F := Ideal) x0 x4 x5 p4 (ix2 0 k),
        ∑ d : Fin 128, k0_pay9 (F := Ideal) x0 x4 x5 (ix2 0 d) * p5 (ix3 0 k d),
        ∑ d : Fin 128, k0_pay3 (F := Ideal) x0 x4 x5 (ix2 6 d) * p6 (ix3 0 k d),
        ∑ d : Fin 128, k0_pay3 (F := Ideal) x0 x4 x5 (ix2 7 d) * p7 (ix3 0 k d)] r
          * (((Real.sqrt 128)⁻¹ : ℝ) : EReal)) ⊥ := by
  simp only [scores, masked, score0_at, score1_at, score2_at, score3_at, score4_at, query5_at, query_at]
  fin_cases r <;> rfl

/-- The body's guarded weights of row `r` are the row's softmax. -/
theorem weights_at (r : Fin 8) (k : Fin 1024) :
    k0_pay15 (F := Ideal) (quots x0 x4 x5 p0 p1 p2 p3 p4 p5 p6 p7 f) (positive x0 x4 x5 p0 p1 p2 p3 p4 p5 p6 p7 f) k0_pay14 (ix2 r k)
      = weight (scores x0 x4 x5 p0 p1 p2 p3 p4 p5 p6 p7 f r) k :=
  weight_at _ _ _ _ _ _ _ _ _ _ _ _ (exp_at _ _ _ _ _ _ _ _ _ _ _ _ (scores_eq x0 x4 x5 p0 p1 p2 p3 p4 p5 p6 p7 f)) r k

/-- The block the body stores, at row `r` and output column `o`: the row's computation on the row's loads. -/
theorem block_at (v0 v1 v2 v3 v4 v5 v6 v7 : FVec Ideal S1x1024x512 .f32) (w1 w2 : FVec Ideal S512x512 .f32) (b1 : FVec Ideal S1x512 .f32)
    (w3 : FVec Ideal S512x512 .f32) (b3 : FVec Ideal S1x512 .f32) (w4 : FVec Ideal S512x512 .f32) (b4 : FVec Ideal S1x512 .f32)
    (r : Fin 8) (o : Fin 512) :
    k0_pay1 (F := Ideal) (k0_pay25 (k0_pay2 x0) (k0_pay24
      (k0_pay16 (quots x0 x4 x5 p0 p1 p2 p3 p4 p5 p6 p7 f) (positive x0 x4 x5 p0 p1 p2 p3 p4 p5 p6 p7 f) k0_pay14 v0) (k0_pay17 (quots x0 x4 x5 p0 p1 p2 p3 p4 p5 p6 p7 f) (positive x0 x4 x5 p0 p1 p2 p3 p4 p5 p6 p7 f) k0_pay14 v1)
      (k0_pay18 (quots x0 x4 x5 p0 p1 p2 p3 p4 p5 p6 p7 f) (positive x0 x4 x5 p0 p1 p2 p3 p4 p5 p6 p7 f) k0_pay14 v2) (k0_pay19 (quots x0 x4 x5 p0 p1 p2 p3 p4 p5 p6 p7 f) (positive x0 x4 x5 p0 p1 p2 p3 p4 p5 p6 p7 f) k0_pay14 v3)
      (k0_pay20 (quots x0 x4 x5 p0 p1 p2 p3 p4 p5 p6 p7 f) (positive x0 x4 x5 p0 p1 p2 p3 p4 p5 p6 p7 f) k0_pay14 v4) (k0_pay21 (quots x0 x4 x5 p0 p1 p2 p3 p4 p5 p6 p7 f) (positive x0 x4 x5 p0 p1 p2 p3 p4 p5 p6 p7 f) k0_pay14 v5)
      (k0_pay22 (quots x0 x4 x5 p0 p1 p2 p3 p4 p5 p6 p7 f) (positive x0 x4 x5 p0 p1 p2 p3 p4 p5 p6 p7 f) k0_pay14 v6) (k0_pay23 (quots x0 x4 x5 p0 p1 p2 p3 p4 p5 p6 p7 f) (positive x0 x4 x5 p0 p1 p2 p3 p4 p5 p6 p7 f) k0_pay14) v7)
      w1 w2 b1 w3 b3 w4 b4) (ix3 0 r o)
      = row (fun v => x0 (ix3 0 r v)) (fun k d => ![p0, p1, p2, p3, p4, p5, p6, p7] r (ix3 0 k d))
          (fun k v => ![v0, v1, v2, v3, v4, v5, v6, v7] r (ix3 0 k v)) (f (ix3 0 r 0)) (fun d v => x4 (ix2 d v)) (fun d => x5 (ix2 0 d))
          (fun v u => w1 (ix2 v u)) (fun v u => w2 (ix2 v u)) (fun v => b1 (ix2 0 v)) (fun u v => w3 (ix2 u v)) (fun u => b3 (ix2 0 u))
          (fun o u => w4 (ix2 o u)) (fun o => b4 (ix2 0 o)) o := by
  have hh : ∀ u : Fin 512, k0_pay2 (F := Ideal) x0 (ix2 r u) = x0 (ix3 0 r u) := fun u => by pointwise [k0_pay2]
  pointwise [k0_pay1]
  rw [layers_at]
  simp only [hh, retrieved_at, weights_at]
  rfl

end

end Cert.KernelIdeal.Block
-- ==== Proof.Batch.lean ====
/- The whole batch: `Cert.Row.row` on each batch row of the argument arrays. Both programs' results are read as this. -/
module

public import proofs.«01_k».proof.Proof.Row
public import Idealize.ShloMosaic.Lib.Pointwise

@[expose] public section

noncomputable section

open Idealize.ShloMosaic

namespace Cert.Row

/-- Batch row `b`, output column `o`, of the argument arrays in their order; the first gate layer's weights are cut at
    column 512. -/
def batch (hid : FVec Ideal ⟨2, ![128, 512]⟩ .f32) (keys : FVec Ideal ⟨3, ![128, 1024, 128]⟩ .f32)
    (vals : FVec Ideal ⟨3, ![128, 1024, 512]⟩ .f32) (Wq : FVec Ideal ⟨2, ![128, 512]⟩ .f32) (bq : FVec Ideal ⟨1, ![128]⟩ .f32)
    (W₁ : FVec Ideal ⟨2, ![512, 1024]⟩ .f32) (b₁ : FVec Ideal ⟨1, ![512]⟩ .f32) (W₂ : FVec Ideal ⟨2, ![512, 512]⟩ .f32)
    (b₂ : FVec Ideal ⟨1, ![512]⟩ .f32) (Wo : FVec Ideal ⟨2, ![512, 512]⟩ .f32) (bo : FVec Ideal ⟨1, ![512]⟩ .f32)
    (filled : IVec ⟨1, ![128]⟩ 32) (b : Fin 128) (o : Fin 512) : EReal :=
  row (fun v => hid (ix2 b v)) (fun k d => keys (ix3 b k d)) (fun k v => vals (ix3 b k v)) (filled (ix1 b))
    (fun d v => Wq (ix2 d v)) (fun d => bq (ix1 d)) (fun v u => W₁ (ix2 v ⟨u.val, by omega⟩))
    (fun v u => W₁ (ix2 v ⟨512 + u.val, by omega⟩)) (fun v => b₁ (ix1 v)) (fun u v => W₂ (ix2 u v)) (fun u => b₂ (ix1 u))
    (fun o u => Wo (ix2 o u)) (fun o => bo (ix1 o)) o

/-- The batch row that grid step `a` and row `j` of its block meet. -/
abbrev rowOf (a : Fin 16) (j : Fin 8) : Fin 128 := ⟨a.val * 8 + j.val, by omega⟩

end Cert.Row

end
-- ==== Proof.Array.lean ====
/- What the kernel's result array holds after the run: every grid step writes its own block of eight rows, the blocks tile
   the array, and each is the batch's computation on the argument arrays. -/
module

public import proofs.«01_k».proof.Proof.Block
public import proofs.«01_k».proof.Proof.Batch
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Row

variable (m : (ℓ : Loc nD τ sig) → Buf (Elt Ideal) ℓ)

/-- Every window's block index at every grid step: step `t`'s block along the first axis for the four arrays with a row per
    batch row and for the result, the one block for the weights. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0, 0] ∧ t.val < 16 :=
  (by decide +kernel : ∀ t : Fin grid0.N, _)

/-- The result array, from the kernel's argument arrays. -/
def result (c : Dev nD) : FVec Ideal S16x8x512 .f32 := fun i =>
  batch (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (rowOf (i 0) (i 1)) (i 2)

/-- What the body leaves in the result's block, from the input blocks: row `r` is the row's computation on row `r` of the
    blocks and the weights. -/
theorem out_at (x0 : Vec Ideal S1x8x512 .f32) (x1 : Vec Ideal S8x1024x128 .f32) (x2 : Vec Ideal S8x1024x512 .f32) (x3 : Vec Ideal S1x8x1 .i32)
    (x4 : Vec Ideal S128x512 .f32) (x5 : Vec Ideal S1x128 .f32) (x6 x7 : Vec Ideal S512x512 .f32) (x8 : Vec Ideal S1x512 .f32)
    (x9 : Vec Ideal S512x512 .f32) (x10 : Vec Ideal S1x512 .f32) (x11 : Vec Ideal S512x512 .f32) (x12 : Vec Ideal S1x512 .f32)
    (r : Fin 8) (o : Fin 512) :
    out0_13 x0 x1 x2 x3 x4 x5 x6 x7 x8 x9 x10 x11 x12 (ix3 0 r o)
      = row (fun v => x0 (ix3 0 r v)) (fun k d => x1 (ix3 r k d)) (fun k v => x2 (ix3 r k v)) (x3 (ix3 0 r 0))
          (fun d v => x4 (ix2 d v)) (fun d => x5 (ix2 0 d)) (fun v u => x6 (ix2 v u)) (fun v u => x7 (ix2 v u)) (fun v => x8 (ix2 0 v))
          (fun u v => x9 (ix2 u v)) (fun u => x10 (ix2 0 u)) (fun o u => x11 (ix2 o u)) (fun o => x12 (ix2 0 o)) o := by
  unfold_out out0_13
  frame_out
  refine (block_at _ _ _ _ _ _ _ _ _ _ _ _ _ _ _ _ _ _ _ _ _ _ _ _ _ _ _ r o).trans ?_
  congr 1
  · funext k d
    fin_cases r <;> (pointwise; try rfl)
  · funext k v
    fin_cases r <;> (pointwise; try rfl)

/-- The result array after the run. -/
theorem final (c : Dev nD) : (dats m 0 c).arrAt 13 (cfgs 0).N = result m c := by
  refine (dats m 0 c).arrAt_eq_of_covers 13 _ (by decide +kernel) fun t _ y => ?_
  blk_simp
  rw [after0_13]
  idx_vars y
  obtain rfl : y0 = 0 := Subsingleton.elim _ _
  refine (out_at _ _ _ _ _ _ _ _ _ _ _ _ _ y1 y2).trans ?_
  unfold result batch
  have e0 : (((View.whole main_v8).slice (win0_13.rect t)).emb (ix3 0 y1 y2) 0).val = t.val := by
    blk_simp [idx t]
    rfl
  have e1 : (((View.whole main_v8).slice (win0_13.rect t)).emb (ix3 0 y1 y2) 1).val = y1.val := by
    blk_simp [idx t]
  congr 1
  · funext v; blk_point [iblk, V, idx t]
  · funext k d; blk_point [iblk, V, idx t]
  · funext k v; blk_point [iblk, V, idx t]
  · blk_point [iblk, V, idx t]
  · funext d v; blk_point [iblk, V, idx t]
  · funext d; blk_point [iblk, V, idx t]
  · funext v u; blk_point [iblk, V, idx t]
  · funext v u; blk_point [iblk, V, idx t]
  · funext v; blk_point [iblk, V, idx t]
  · funext u v; blk_point [iblk, V, idx t]
  · funext u; blk_point [iblk, V, idx t]
  · funext o u; blk_point [iblk, V, idx t]
  · funext o; blk_point [iblk, V, idx t]
  · refine Fin.ext ?_
    blk_simp [idx t]

end Cert.KernelIdeal.Block
-- ==== Proof.Reference.lean ====
/- What the reference computes, stage by stage at an index, and its result as `Cert.Row.batch` of its argument arrays. -/
module

public import proofs.«01_k».proof.Proof.Gen.ReferenceIdeal.Run
public import proofs.«01_k».proof.Proof.Batch
public import proofs.«01_k».proof.Proof.Consts
public import Idealize.ShloMosaic.Lib.Tactic.CleanTypes
public import Idealize.ShloMosaic.Lib.Claim

@[expose] public section

set_option maxRecDepth 16384

noncomputable section

open Idealize.ShloMosaic Idealize.ShloMosaic.TcCoe Idealize.SL.Sem

namespace Cert.ReferenceIdeal.Rows

open Cert.ReferenceIdeal Cert.ReferenceIdeal.Value Cert.Row

variable (V0 : Valuation τ sig (Elt Ideal))

/-- Batch row `b`'s masked scores, from the argument arrays. -/
def scores (b : Fin 128) : Fin 1024 → EReal :=
  masked (query (fun v => (V0 (Proc.devRef .tc main_arg0) : FVec Ideal S128x512 .f32) (ix2 b v))
      (fun d v => (V0 (Proc.devRef .tc main_arg3) : FVec Ideal S128x512 .f32) (ix2 d v))
      (fun d => (V0 (Proc.devRef .tc main_arg4) : FVec Ideal S128 .f32) (ix1 d)))
    (fun k d => (V0 (Proc.devRef .tc main_arg1) : FVec Ideal S128x1024x128 .f32) (ix3 b k d))
    ((V0 (Proc.devRef .tc main_arg11) : IVec S128 32) (ix1 b))

/-- Batch row `b`'s retrieved value, from the argument arrays. -/
def value (b : Fin 128) : Fin 512 → EReal :=
  retrieved (weight (scores V0 b)) fun k v => (V0 (Proc.devRef .tc main_arg2) : FVec Ideal S128x1024x512 .f32) (ix3 b k v)

/-- Dividing by the root of the key width multiplies by the root's inverse. -/
theorem div_root (x : EReal) : Ideal.div x (Ideal.sqrt (Ideal.ofBits .f32 0x43000000#32)) = x * (((Real.sqrt 128)⁻¹ : ℝ) : EReal) := by
  have h : Ideal.sqrt (Ideal.ofBits .f32 0x43000000#32) = ((Real.sqrt 128 : ℝ) : EReal) := by
    rw [Consts.ofBits_key_width]
    exact if_neg (by norm_num)
  rw [h, Ideal.div_coe (Real.sqrt_ne_zero'.2 (by norm_num)), one_div]

/-- The masked scores. -/
theorem scores_at (b : Fin 128) (k : Fin 1024) : (res_main_v15 V0 : FVec Ideal S128x1024 .f32) (ix2 b k) = scores V0 b k := by
  pointwise [res_main_v15]
  rw [div_root]
  unfold scores masked query
  congr 2
  exact Finset.sum_congr rfl fun d _ => mul_comm _ _

/-- The exponential of a score less the row's largest. -/
theorem exp_at (b : Fin 128) (k : Fin 1024) :
    (res_main_v22 V0 : FVec Ideal S128x1024 .f32) (ix2 b k) = Ideal.exp (scores V0 b k - top (scores V0 b)) := by
  unfold res_main_v22
  clean_types
  pointwise
  simp only [scores_at, Consts.ofBits_neg_inf, bot_le, max_eq_right, top]

/-- The plain softmax quotient. -/
theorem quotient_at (b : Fin 128) (k : Fin 1024) :
    (res_main_v26 V0 : FVec Ideal S128x1024 .f32) (ix2 b k) = quotient (scores V0 b) k := by
  pointwise [res_main_v26]
  simp only [exp_at, quotient]

/-- The retrieved value: the cleaned quotient is the guarded softmax. -/
theorem value_at (b : Fin 128) (v : Fin 512) : (res_main_v28 V0 : FVec Ideal S128x512 .f32) (ix2 b v) = value V0 b v := by
  unfold res_main_v28 res_main_call1_v5 res_main_call1_v2
  clean_types
  pointwise
  unfold value retrieved
  refine Finset.sum_congr rfl fun k _ => congrArg (· * _) ?_
  rw [weight_eq_clean (Ideal.ofBits .f32 0x7F7FFFFF#32)]
  simp only [quotient_at, ne_eq, not_true_eq_false, if_false, Consts.ofBits_neg_inf, Consts.ofBits_pos_inf, clean]
  rw [show id (constant (F := Ideal) S_ .f32 0x00000000#32) ix0 = 0 from Ideal.ofBits_zero .f32]

/-- The first gate layer before its activation. -/
theorem layer_at (b : Fin 128) (v : Fin 512) : (res_main_v34 V0 : FVec Ideal S128x512 .f32) (ix2 b v)
    = layer (fun u => (V0 (Proc.devRef .tc main_arg0) : FVec Ideal S128x512 .f32) (ix2 b u)) (value V0 b)
        (fun v u => (V0 (Proc.devRef .tc main_arg5) : FVec Ideal S512x1024 .f32) (ix2 v ⟨u.val, by omega⟩))
        (fun v u => (V0 (Proc.devRef .tc main_arg5) : FVec Ideal S512x1024 .f32) (ix2 v ⟨512 + u.val, by omega⟩))
        (fun v => (V0 (Proc.devRef .tc main_arg6) : FVec Ideal S512 .f32) (ix1 v)) v := by
  pointwise [res_main_v34]
  simp only [value_at, layer]

/-- The reference's result: every batch row's computation on the argument arrays. -/
theorem result (a : Fin 16) (j : Fin 8) (o : Fin 512) :
    (val2 V0 (Proc.devRef .tc main_v54) : FVec Ideal S16x8x512 .f32) (ix3 a j o)
      = batch (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11)) (rowOf a j) o := by
  refine (congrFun (val2_main_v54 V0) (ix3 a j o)).trans ?_
  pointwise
  simp only [layer_at, value_at]
  rfl

end Cert.ReferenceIdeal.Rows

end
-- ==== Proof.Equation.lean ====
/- The equation between the two programs: from memories that agree on the arguments, the kernel's result array and the
   reference's hold the same extended reals. -/
module

public import proofs.«01_k».proof.Defs
public import proofs.«01_k».proof.Proof.Array
public import proofs.«01_k».proof.Proof.Reference
public import Idealize.ShloMosaic.Lib.Claim

@[expose] public section

set_option maxRecDepth 16384

noncomputable section

open Idealize.ShloMosaic Idealize.ShloMosaic.TcCoe Idealize.SL.Sem

namespace Cert.ReferenceIdeal.Rows

open Cert.ReferenceIdeal Cert.ReferenceIdeal.Value Cert.Row

/-- The reference's result from its argument arrays at the start. -/
theorem result_start (m : (ℓ : Loc nD τ sig) → Buf (Elt Ideal) ℓ) (c : Dev nD) (a : Fin 16) (j : Fin 8) (o : Fin 512) :
    (val2 (StableHlo.launchContents m c) (Proc.devRef .tc main_v54) : FVec Ideal S16x8x512 .f32) (ix3 a j o)
      = batch
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (rowOf a j) o :=
  result (StableHlo.launchContents m c) a j o

end Cert.ReferenceIdeal.Rows

namespace Cert.Proof

/-- The reference leaves its arguments as they were, and has no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The two programs' results are equal, over extended reals. -/
theorem algebraic : Cert.algebraic_KernelIdeal_ReferenceIdeal := by
  pair_intro
  · run_from Cert.KernelIdeal.Gen.run_main m g
  · refine (θ_run Cert.ReferenceIdeal.defs _ _).mono
      (fun r h c => ⟨(h c).1.trans ?_, (h c).2⟩)
      (Cert.ReferenceIdeal.Value.run (F := Ideal) m' g')
    refine (Cert.ReferenceIdeal.Value.val2_main_v54 _).symm.trans (.trans ?_ (Cert.KernelIdeal.Block.final m c).symm)
    funext i
    idx_vars i
    refine (Cert.ReferenceIdeal.Rows.result_start m' c _ _ _).trans ?_
    obtain ⟨h0, h1, h2, h3, h4, h5, h6, h7, h8, h9, h10, h11⟩ := hagree c
    rw [h0, h1, h2, h3, h4, h5, h6, h7, h8, h9, h10, h11]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as run keeps its arguments and ends with every semaphore at zero. -/
theorem frame_kernel : Cert.quiescent_Kernel := fun m g _ => Cert.Kernel.Gen.frame m g

/-- The idealized kernel keeps its arguments and ends with every semaphore at zero. -/
theorem frame_ideal : Cert.quiescent_KernelIdeal := fun m g _ => Cert.KernelIdeal.Gen.frame m g

/-- The one named constant: the kernel's literal stands for the inverse root of the key width. -/
theorem preserves : Cert.preserves_Kernel_KernelIdeal :=
  IdealRules.named_const.statement Cert.KernelIdeal.κ "rscale" .f32 0x3DB504F3#32 (((Real.sqrt 128)⁻¹ : ℝ) : EReal) rfl

/-- All the claims. -/
theorem claim : Cert.Claim := ⟨Cert.Kernel.Gen.facts, Cert.KernelIdeal.Gen.facts, Cert.ReferenceIdeal.Gen.facts,
  frame_kernel, frame_ideal, frame_reference, preserves, algebraic⟩

end Cert.Proof

end
